-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S4x24x24x256 : Shape := ⟨4, ![4, 24, 24, 256]⟩
abbrev S512x256 : Shape := ⟨2, ![512, 256]⟩
abbrev S_ : Shape := ⟨0, ![]⟩

class Facts : Prop where
  bcast_S_S4x24x24x256 : S_.BroadcastsInDim S4x24x24x256 (![] : Fin 0 → Fin S4x24x24x256.rank)
  bcast_S_S512x256 : S_.BroadcastsInDim S512x256 (![] : Fin 0 → Fin S512x256.rank)

variable [Facts]

def fn {F : FTy → Type} [FloatOps F] (main_arg0 : FVec F S4x24x24x256 .f32) (main_arg1 : FVec F S512x256 .f32) : IVec S4x24x24x256 1 × IVec S512x256 1 :=
  let main_v0 : FVec F S4x24x24x256 .f32 := Host.absf main_arg0
  let main_cst : FVec F S_ .f32 := constant S_ .f32 0x7F800000#32
  let main_v1 : FVec F S4x24x24x256 .f32 := broadcastInDim S4x24x24x256 ![] bcast_S_S4x24x24x256 main_cst
  let main_v2 : IVec S4x24x24x256 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  (main_v2, main_v5)
-- ==== Kernel.lean ====
abbrev S4x24x24x256 : Shape := ⟨4, ![4, 24, 24, 256]⟩
abbrev S512x256 : Shape := ⟨2, ![512, 256]⟩
abbrev S2304x256 : Shape := ⟨2, ![2304, 256]⟩
abbrev S4x24x24 : Shape := ⟨3, ![4, 24, 24]⟩
abbrev S576x256 : Shape := ⟨2, ![576, 256]⟩
abbrev S1x24x24 : Shape := ⟨3, ![1, 24, 24]⟩
abbrev S256x512 : Shape := ⟨2, ![256, 512]⟩
abbrev S1x512 : Shape := ⟨2, ![1, 512]⟩
abbrev S512 : Shape := ⟨1, ![512]⟩
abbrev S576x512 : Shape := ⟨2, ![576, 512]⟩
abbrev S576 : Shape := ⟨1, ![576]⟩
abbrev S576x1 : Shape := ⟨2, ![576, 1]⟩
abbrev S1x576 : Shape := ⟨2, ![1, 576]⟩
abbrev S1x1152 : Shape := ⟨2, ![1, 1152]⟩
abbrev S512x1152 : Shape := ⟨2, ![512, 1152]⟩
abbrev S256x1152 : Shape := ⟨2, ![256, 1152]⟩
abbrev S256x576 : Shape := ⟨2, ![256, 576]⟩
abbrev S8x1152 : Shape := ⟨2, ![8, 1152]⟩
abbrev S4x1152 : Shape := ⟨2, ![4, 1152]⟩
abbrev S2x1152 : Shape := ⟨2, ![2, 1152]⟩

abbrev nBuf : Space → Nat
  | .hbm => 4
  | .vmem => 7
  | .smem => 0
  | _ => 0

abbrev bufTy : (tb : Table) → Fin (tcTables nBuf tb) → BufTy
  | .hbm, ⟨0, _⟩ => ⟨S4x24x24x256, .f32⟩
  | .hbm, ⟨1, _⟩ => ⟨S512x256, .f32⟩
  | .hbm, ⟨2, _⟩ => ⟨S2304x256, .f32⟩
  | .hbm, ⟨3, _⟩ => ⟨S4x24x24, .i32⟩
  | .local _ .vmem, ⟨0, _⟩ => ⟨S576x256, .f32⟩
  | .local _ .vmem, ⟨1, _⟩ => ⟨S576x256, .f32⟩
  | .local _ .vmem, ⟨2, _⟩ => ⟨S512x256, .f32⟩
  | .local _ .vmem, ⟨3, _⟩ => ⟨S1x24x24, .i32⟩
  | .local _ .vmem, ⟨4, _⟩ => ⟨S1x24x24, .i32⟩
  | .local _ .vmem, ⟨5, _⟩ => ⟨S256x512, .f32⟩
  | .local _ .vmem, ⟨6, _⟩ => ⟨S1x512, .f32⟩
  | _, _ => ⟨S4x24x24x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S576x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x24x24 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x24x24x256 : Shape := ⟨4, ![4, 24, 24, 256]⟩
abbrev S512x256 : Shape := ⟨2, ![512, 256]⟩
abbrev S1x1x1x512x256 : Shape := ⟨5, ![1, 1, 1, 512, 256]⟩
abbrev S4x24x24x1x256 : Shape := ⟨5, ![4, 24, 24, 1, 256]⟩
abbrev S4x24x24x512x256 : Shape := ⟨5, ![4, 24, 24, 512, 256]⟩
abbrev S_ : Shape := ⟨0, ![]⟩
abbrev S4x24x24x512 : Shape := ⟨4, ![4, 24, 24, 512]⟩
abbrev S4x24x24 : Shape := ⟨3, ![4, 24, 24]⟩

abbrev nBuf : Space → Nat
  | .hbm => 16
  | .vmem => 0
  | .smem => 0
  | _ => 0

abbrev bufTy : (tb : Table) → Fin (tcTables nBuf tb) → BufTy
  | .hbm, ⟨0, _⟩ => ⟨S4x24x24x256, .f32⟩
  | .hbm, ⟨1, _⟩ => ⟨S512x256, .f32⟩
  | .hbm, ⟨2, _⟩ => ⟨S1x1x1x512x256, .f32⟩
  | .hbm, ⟨3, _⟩ => ⟨S4x24x24x1x256, .f32⟩
  | .hbm, ⟨4, _⟩ => ⟨S4x24x24x512x256, .f32⟩
  | .hbm, ⟨5, _⟩ => ⟨S4x24x24x512x256, .f32⟩
  | .hbm, ⟨6, _⟩ => ⟨S4x24x24x512x256, .f32⟩
  | .hbm, ⟨7, _⟩ => ⟨S4x24x24x512x256, .f32⟩
  | .hbm, ⟨8, _⟩ => ⟨S_, .f32⟩
  | .hbm, ⟨9, _⟩ => ⟨S4x24x24x512, .f32⟩
  | .hbm, ⟨10, _⟩ => ⟨S4x24x24x512, .f32⟩
  | .hbm, ⟨11, _⟩ => ⟨S4x24x24x512, .i32⟩
  | .hbm, ⟨12, _⟩ => ⟨S_, .f32⟩
  | .hbm, ⟨13, _⟩ => ⟨S_, .i32⟩
  | .hbm, ⟨14, _⟩ => ⟨S4x24x24, .f32⟩
  | .hbm, ⟨15, _⟩ => ⟨S4x24x24, .i32⟩
  | _, _ => ⟨S4x24x24x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.RefRun.lean ====
/-
  The run of the reference program. Its main function is a straight line of fourteen array operations (two of its lines
  call a function of their own, four operations each counted here in place), so every execution ends and each array then
  holds the operations' results folded over the arrays it started from. The array of the answer is read off that fold as
  `refOut`: the subtraction of every codebook row from every vector, the root of the sum of squares, and the position of
  the smallest along the codebook axis. The two arguments keep what they held and no semaphore is left raised.
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.RefValue

open Cert.ReferenceIdeal Cert.ReferenceIdeal.Gen
open Idealize.ShloMosaic Idealize.ShloMosaic.TcCoe Idealize.ShloMosaic.StableHlo Idealize.SL.Sem

variable {F : FTy → Type} [FloatOps F]

/-- The operations of the reference's main function in order, the two called functions' in their places. -/
abbrev ops : List (HloOp τ sig (Elt F)) :=
  [ reshape main_arg1 main_v0 (rfl : (.f32 : EltTy) = .f32) shapeCasts_S512x256_S1x1x1x512x256,
    unary main_arg0 main_v1 (broadcastInDim S4x24x24x1x256 ![0, 1, 2, 4] bcast_S4x24x24x256_S4x24x24x1x256_0_1_2_4 : (⟨S4x24x24x256, .f32⟩ : BufTy).Contents (Elt F) → (⟨S4x24x24x1x256, .f32⟩ : BufTy).Contents (Elt F)),
    unary main_v1 main_v2 (broadcastInDim S4x24x24x512x256 ![0, 1, 2, 3, 4] bcast_S4x24x24x1x256_S4x24x24x512x256_0_1_2_3_4 : (⟨S4x24x24x1x256, .f32⟩ : BufTy).Contents (Elt F) → (⟨S4x24x24x512x256, .f32⟩ : BufTy).Contents (Elt F)),
    unary main_v0 main_v3 (broadcastInDim S4x24x24x512x256 ![0, 1, 2, 3, 4] bcast_S1x1x1x512x256_S4x24x24x512x256_0_1_2_3_4 : (⟨S1x1x1x512x256, .f32⟩ : BufTy).Contents (Elt F) → (⟨S4x24x24x512x256, .f32⟩ : BufTy).Contents (Elt F)),
    binary main_v2 main_v3 main_v4 (subf : (⟨S4x24x24x512x256, .f32⟩ : BufTy).Contents (Elt F) → (⟨S4x24x24x512x256, .f32⟩ : BufTy).Contents (Elt F) → (⟨S4x24x24x512x256, .f32⟩ : BufTy).Contents (Elt F)),
    binary main_v4 main_v4 main_call0_v0 (mulf : FVec F S4x24x24x512x256 .f32 → FVec F S4x24x24x512x256 .f32 → FVec F S4x24x24x512x256 .f32),
    nullary main_call0_cst (constant S_ .f32 0x00000000#32),
    binary main_call0_v0 main_call0_cst main_call0_v1 (fun (x : FVec F S4x24x24x512x256 .f32) (v : FVec F S_ .f32) => Host.reduceAdd x v reducesTo_S4x24x24x512x256_S4x24x24x512_d4 h_S_),
    unary main_call0_v1 main_v5 (Host.sqrt : FVec F S4x24x24x512 .f32 → FVec F S4x24x24x512 .f32),
    nullary main_call1_v0 (iotaInDim S4x24x24x512 32 3),
    nullary main_call1_cst (constant S_ .f32 0x7F800000#32),
    nullary main_call1_c (constantI S_ 32 0#32),
    quaternary main_v5 main_call1_v0 main_call1_cst main_call1_c main_call1_v1_0 (fun (x : FVec F S4x24x24x512 .f32) (y : IVec S4x24x24x512 32) (u : FVec F S_ .f32) (v : IVec S_ 32) j => (Host.argReduce reducer_argmin_f32_i32 x y u v reducesTo_S4x24x24x512_S4x24x24_d3 h_S_ j).1),
    quaternary main_v5 main_call1_v0 main_call1_cst main_call1_c main_v6 (fun (x : FVec F S4x24x24x512 .f32) (y : IVec S4x24x24x512 32) (u : FVec F S_ .f32) (v : IVec S_ 32) j => (Host.argReduce reducer_argmin_f32_i32 x y u v reducesTo_S4x24x24x512_S4x24x24_d3 h_S_ j).2) ]

/-- The reference's main function is that straight line. -/
theorem main_eq (c : Dev nD) : main (F := F) c = seq ops := rfl

/-- Every vector minus every codebook row, entry by entry. -/
def refDiff (z : FVec F S4x24x24x256 .f32) (cb : FVec F S512x256 .f32) : FVec F S4x24x24x512x256 .f32 :=
  subf (broadcastInDim S4x24x24x512x256 ![0, 1, 2, 3, 4] bcast_S4x24x24x1x256_S4x24x24x512x256_0_1_2_3_4
      (broadcastInDim S4x24x24x1x256 ![0, 1, 2, 4] bcast_S4x24x24x256_S4x24x24x1x256_0_1_2_4 z))
    (broadcastInDim S4x24x24x512x256 ![0, 1, 2, 3, 4] bcast_S1x1x1x512x256_S4x24x24x512x256_0_1_2_3_4
      (shapeCast S1x1x1x512x256 cb shapeCasts_S512x256_S1x1x1x512x256))

/-- The distance of every vector to every codebook row: the root of the sum of the squares. -/
def refNorm (z : FVec F S4x24x24x256 .f32) (cb : FVec F S512x256 .f32) : FVec F S4x24x24x512 .f32 :=
  Host.sqrt (Host.reduceAdd (mulf (refDiff z cb) (refDiff z cb)) (constant S_ .f32 0x00000000#32) reducesTo_S4x24x24x512x256_S4x24x24x512_d4 h_S_)

/-- The reference's answer: for every vector the position of its smallest distance. -/
def refOut (z : FVec F S4x24x24x256 .f32) (cb : FVec F S512x256 .f32) : IVec S4x24x24 32 := fun j =>
  (Host.argReduce reducer_argmin_f32_i32 (refNorm z cb) (iotaInDim S4x24x24x512 32 3) (constant S_ .f32 0x7F800000#32)
    (constantI S_ 32 0#32) reducesTo_S4x24x24x512_S4x24x24_d3 h_S_ j).2

/-- The fold of the operations at the answer's array is `refOut` of the arguments. -/
theorem out_eq (V : Valuation τ sig (Elt F)) :
    after ops V (main_v6 : DevRef τ sig) = refOut (V (main_arg0 : DevRef τ sig)) (V (main_arg1 : DevRef τ sig)) := by
  after_results
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- The program scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches only buffers of the one core that runs it. -/
theorem ops_sub : (ops : List (HloOp τ sig (Elt F))).Forall fun op => op.bufs ⊆ tcRefs τ sig :=
  ⟨reshape_bufs_sub .., unary_bufs_sub .., unary_bufs_sub .., unary_bufs_sub .., binary_bufs_sub .., binary_bufs_sub ..,
    nullary_bufs_sub .., binary_bufs_sub .., unary_bufs_sub .., nullary_bufs_sub .., nullary_bufs_sub ..,
    nullary_bufs_sub .., quaternary_bufs_sub .., quaternary_bufs_sub ..⟩

/-- From any memory with zero counters every execution of the reference ends, with the answer's array at `refOut` of the
    arguments' first contents, the arguments as they were, and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v6).trans (out_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.ReferenceIdeal.RefValue

end
-- ==== Proof.Math.lean ====
/-
  The mathematics of a first smallest entry, apart from any program. `IsFirstMin D w` says the word `w` is the position of
  the first smallest entry of the real family `D`. It determines `w`. Three ways to find it are shown: the kernel's masked
  minimum of positions (`firstMinWord`), the reference's fold over pairs of a value and a position that keeps the smaller
  pair, and the passage from the score half |c|² − z·c to the squared distance |z − c|².
-/
module

public import Idealize.ShloMosaic.Lib.Pointwise
public import Idealize.ShloMosaic.PureOps.Ideal
public import Idealize.ShloMosaic.PureOps.Ideal.Laws

@[expose] public section

noncomputable section

namespace Cert.FirstMin

open Idealize.ShloMosaic

/-! ## The first smallest entry -/

/-- The word `w` is the position of the first smallest entry of `D`. -/
def IsFirstMin {n : ℕ} (D : Fin n → ℝ) (w : BitVec 32) : Prop :=
  ∃ k : Fin n, w = BitVec.ofNat 32 k.val ∧ (∀ j, D k ≤ D j) ∧ ∀ j, j < k → D k < D j

/-- At most one word is the position of the first smallest entry. -/
theorem IsFirstMin.unique {n : ℕ} {D : Fin n → ℝ} {w w' : BitVec 32} (h : IsFirstMin D w) (h' : IsFirstMin D w') : w = w' := by
  obtain ⟨k, rfl, hk, hk'⟩ := h
  obtain ⟨l, rfl, hl, hl'⟩ := h'
  have e : k = l := by
    rcases lt_trichotomy k l with c | c | c
    · exact absurd (hl' k c) (not_lt.mpr (hk l))
    · exact c
    · exact absurd (hk' l c) (not_lt.mpr (hl k))
  rw [e]

/-- The word of a number below 512, read as a signed integer, is that number. -/
theorem toInt_ofNat_small {k : ℕ} (h : k < 512) : (BitVec.ofNat 32 k).toInt = k := by
  have hk : (BitVec.ofNat 32 k).toNat = k := by rw [BitVec.toNat_ofNat]; exact Nat.mod_eq_of_lt (by omega)
  rw [BitVec.toInt_eq_toNat_of_lt (by omega), hk]

/-- Words of two numbers below 512 are equal only if the numbers are. -/
theorem ofNat_inj_small {k l : ℕ} (hk : k < 512) (hl : l < 512) (h : BitVec.ofNat 32 k = BitVec.ofNat 32 l) : k = l := by
  have := congrArg BitVec.toInt h
  rw [toInt_ofNat_small hk, toInt_ofNat_small hl] at this
  exact_mod_cast this

/-! ## The kernel's way: the smallest position among those whose value is the minimum -/

/-- The signed minimum of two words is the minimum of their integers. -/
theorem toInt_minsi (a b : BitVec 32) : (IntOp.minsi a b).toInt = min a.toInt b.toInt := by
  unfold IntOp.minsi
  simp only [BitVec.slt, decide_eq_true_eq]
  split_ifs with h
  · exact (min_eq_left h.le).symm
  · exact (min_eq_right (not_lt.mp h)).symm

/-- The signed minimum of the positions at which `f` takes its minimum, 512 standing at the others. -/
def firstMinWord (f : Fin 512 → EReal) : BitVec 32 :=
  Finset.univ.fold IntOp.minsi 2147483647#32
    (fun k => if f k = Finset.univ.fold min ⊤ f then BitVec.ofNat 32 k.val else 512#32)

/-- That word is the first position of a smallest entry of `f`. -/
theorem firstMinWord_spec (f : Fin 512 → EReal) :
    ∃ k : Fin 512, firstMinWord f = BitVec.ofNat 32 k.val ∧ (∀ j, f k ≤ f j) ∧ ∀ j, j < k → f k < f j := by
  classical
  obtain ⟨a, ha⟩ := Finite.exists_min f
  have hmin : Finset.univ.fold min ⊤ f = f a :=
    le_antisymm (Finset.fold_min_le _ |>.mpr (Or.inr ⟨a, Finset.mem_univ _, le_rfl⟩))
      (Finset.le_fold_min _ |>.mpr ⟨le_top, fun x _ => ha x⟩)
  have hex : ∃ n : ℕ, ∃ h : n < 512, f ⟨n, h⟩ = f a := ⟨a.val, a.isLt, rfl⟩
  obtain ⟨hlt, hk⟩ := Nat.find_spec hex
  have hfirst : ∀ j : Fin 512, f j = f a → Nat.find hex ≤ j.val := fun j hj => Nat.find_min' hex ⟨j.isLt, hj⟩
  refine ⟨⟨Nat.find hex, hlt⟩, ?_, fun j => hk.trans_le (ha j), fun j hj => ?_⟩
  · apply BitVec.eq_of_toInt_eq
    unfold firstMinWord
    rw [hmin, toInt_ofNat_small hlt]
    rw [← Finset.fold_hom (op' := min) (m := BitVec.toInt) (hm := toInt_minsi)]
    refine le_antisymm (Finset.fold_min_le _ |>.mpr (Or.inr ⟨⟨Nat.find hex, hlt⟩, Finset.mem_univ _, ?_⟩))
      (Finset.le_fold_min _ |>.mpr ⟨?_, fun x _ => ?_⟩)
    · dsimp only
      rw [if_pos hk, toInt_ofNat_small hlt]
    · have : (2147483647#32 : BitVec 32).toInt = 2147483647 := by decide
      rw [this]; omega
    · split_ifs with hx
      · rw [toInt_ofNat_small x.isLt]; exact_mod_cast hfirst x hx
      · have : (512#32 : BitVec 32).toInt = 512 := by decide
        rw [this]; omega
  · refine lt_of_le_of_ne (hk.trans_le (ha j)) fun e => ?_
    have := hfirst j (e.symm.trans hk)
    exact absurd (show j.val < Nat.find hex from hj) (by omega)

/-- Choosing by the equality of two words is the plain choice. -/
theorem select_word_eq (u v : BitVec 32) (x y : EReal) :
    Scalar.select (IntOp.cmpi CmpIPredicate.eq u v) x y = if u = v then x else y := by
  by_cases h : u = v
  · subst h; simp [Scalar.select, IntOp.cmpi]
  · rw [if_neg h]
    show (if BitVec.ofBool (u == v) = 1#1 then x else y) = y
    rw [beq_false_of_ne h]
    rfl

/-- The nearer of two candidates, the one at the smaller position when they are equally near. -/
def pick (i1 i2 : BitVec 32) (n1 n2 : EReal) : BitVec 32 :=
  if n2 < n1 then i2 else if n1 < n2 then i1 else IntOp.minsi i1 i2

/-- When the first candidate is the first nearest row, the choice is that candidate, whatever the second one is. -/
theorem pick_first {D : Fin 512 → ℝ} (h0 : ∀ k, 0 ≤ D k) {k l : Fin 512} (hk : ∀ j, D k ≤ D j)
    (hk' : ∀ j, j < k → D k < D j) :
    pick (BitVec.ofNat 32 k.val) (BitVec.ofNat 32 l.val) (Real.sqrt (D k) : EReal) (Real.sqrt (D l) : EReal)
      = BitVec.ofNat 32 k.val := by
  unfold pick
  have hle : Real.sqrt (D k) ≤ Real.sqrt (D l) := Real.sqrt_le_sqrt (hk l)
  rw [if_neg (by rw [EReal.coe_lt_coe_iff]; exact not_lt.mpr hle)]
  split_ifs with h
  · rfl
  · rw [EReal.coe_lt_coe_iff, not_lt] at h
    have e : D k = D l := (Real.sqrt_inj (h0 k) (h0 l)).mp (le_antisymm hle h)
    have hkl : k.val ≤ l.val := by
      by_contra c
      exact absurd (hk' l (by rw [Fin.lt_def]; omega)) (by rw [e]; exact lt_irrefl _)
    apply BitVec.eq_of_toInt_eq
    rw [toInt_minsi, toInt_ofNat_small k.isLt, toInt_ofNat_small l.isLt]
    exact min_eq_left (by exact_mod_cast hkl)

/-! ## Adding up 256 numbers in the kernel's order -/

/-- Eight rows added up as the kernel adds them: rows four apart, then two apart, then the last two. -/
def fold8 (a : Fin 8 → EReal) : EReal := ((a 0 + a 4) + (a 2 + a 6)) + ((a 1 + a 5) + (a 3 + a 7))

/-- That is the sum of the eight. -/
theorem fold8_eq_sum (a : Fin 8 → EReal) : fold8 a = ∑ s : Fin 8, a s := by
  rw [Fin.sum_univ_eight]; unfold fold8; abel

/-- The 256 rows in the order the kernel adds them: two halves, eight residues, sixteen slices. -/
theorem sum_rows (a : Fin 256 → EReal) :
    ∑ i, a i = fold8 (fun s => ∑ t : Fin 16, a ⟨8 * t.val + s.val, by omega⟩)
      + fold8 (fun s => ∑ t : Fin 16, a ⟨128 + 8 * t.val + s.val, by omega⟩) := by
  rw [fold8_eq_sum, fold8_eq_sum, Finset.sum_comm, Finset.sum_comm (s := Finset.univ (α := Fin 8))]
  have e : ∑ i, a i = ∑ x : Fin (16 + 16), ∑ s : Fin 8, a ⟨8 * x.val + s.val, by omega⟩ := by
    rw [← Fintype.sum_prod_type' (f := fun (x : Fin 32) (s : Fin 8) => a ⟨8 * x.val + s.val, by omega⟩)]
    exact (Fintype.sum_equiv (finProdFinEquiv (m := 32) (n := 8)) _ a fun p => congrArg a (Fin.ext (by
      show _ = p.2.val + 8 * p.1.val
      dsimp only
      omega))).symm
  rw [e, Fin.sum_univ_add]
  congr 1

/-- A sum against a one-hot family picks the marked entry. -/
theorem sum_one_hot (a : Fin 512 → EReal) (l : Fin 512) :
    ∑ k : Fin 512, a k * (if BitVec.ofNat 32 k.val = BitVec.ofNat 32 l.val then 1 else 0) = a l := by
  rw [Finset.sum_eq_single l]
  · rw [if_pos rfl, mul_one]
  · intro k _ hk
    rw [if_neg fun h => hk (Fin.ext (ofNat_inj_small k.isLt l.isLt h)), mul_zero]
  · exact fun h => absurd (Finset.mem_univ _) h

/-! ## The reference's way: the smallest pair of a value and a position -/

/-- A pair comes before another: its value is smaller, or equal with a position no later. -/
def Before (p q : EReal × BitVec 32) : Prop := p.1 < q.1 ∨ (p.1 = q.1 ∧ p.2.toInt ≤ q.2.toInt)

/-- Every pair comes before itself. -/
theorem Before.refl (p : EReal × BitVec 32) : Before p p := Or.inr ⟨rfl, le_rfl⟩

/-- Coming before carries over from pair to pair. -/
theorem Before.trans {p q r : EReal × BitVec 32} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A fold of a choice that returns one of its two pairs, and one that comes before both, ends at a pair of the list (or
    the start) that comes before all of them. -/
theorem foldl_before (f : EReal × BitVec 32 → EReal × BitVec 32 → EReal × BitVec 32)
    (hf : ∀ a b, (f a b = a ∨ f a b = b) ∧ Before (f a b) a ∧ Before (f a b) b) :
    ∀ (L : List (EReal × BitVec 32)) (a : EReal × BitVec 32),
      (L.foldl f a = a ∨ L.foldl f a ∈ L) ∧ Before (L.foldl f a) a ∧ ∀ p ∈ L, Before (L.foldl f a) p
  | [], a => ⟨Or.inl rfl, Before.refl a, by simp⟩
  | b :: L, a => by
    obtain ⟨h1, h2, h3⟩ := foldl_before f hf L (f a b)
    obtain ⟨g1, g2, g3⟩ := hf a b
    rw [List.foldl_cons]
    refine ⟨?_, h2.trans g2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp hp with rfl | hp
      · exact h2.trans g3
      · exact h3 p hp

/-! ## From the score to the squared distance -/

/-- The squared distance to a row is the squared length of the vector plus twice the row's score. -/
theorem sq_dist_eq (z c : Fin 256 → ℝ) :
    ∑ i, (z i - c i) ^ 2 = ∑ i, z i ^ 2 + 2 * (1 / 2 * ∑ i, c i * c i - ∑ i, z i * c i) := by
  rw [mul_sub, ← mul_assoc, show (2 : ℝ) * (1 / 2) = 1 by norm_num, one_mul, Finset.mul_sum, ← add_sub_assoc,
    ← Finset.sum_add_distrib, ← Finset.sum_sub_distrib]
  exact Finset.sum_congr rfl fun i _ => by ring

/-- A sum of finite numbers, taken over the extended reals, is the finite sum. -/
theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- The root of a finite number not below zero. -/
theorem sqrt_coe_nonneg {x : ℝ} (h : 0 ≤ x) : Ideal.sqrt (x : EReal) = (Real.sqrt x : EReal) := by
  show (if x < 0 then (⊥ : EReal) else (Real.sqrt x : EReal)) = _
  rw [if_neg (not_lt.mpr h)]

/-- A number whose absolute value is below infinity is finite. -/
theorem exists_coe_of_abs_lt {x : EReal} (h : max x (-x) < ⊤) : ∃ r : ℝ, x = (r : EReal) := by
  induction x with
  | bot => simp at h
  | top => simp at h
  | coe r => exact ⟨r, rfl⟩

end Cert.FirstMin

end
-- ==== Proof.RefValue.lean ====
/-
  What the reference's answer is, over the extended reals and for finite inputs: at every place, the position of the first
  codebook row nearest to that place's vector. The reference folds the pairs (distance, position) of a place, keeping the
  smaller distance and on equal distances the smaller position, so the order of the fold does not matter.
-/
module

public import proofs.«01_k».proof.Proof.RefRun
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.FirstMin

/-- The reference's choice between two pairs: the first one if its value is smaller, or equal with a smaller position. -/
theorem reducer_eq (a b : EReal × BitVec 32) :
    reducer_argmin_f32_i32 (F := Ideal) a b
      = (if a.1 < b.1 then a.1 else b.1, if a.1 < b.1 ∨ (a.1 = b.1 ∧ a.2.slt b.2) then a.2 else b.2) := by
  unfold reducer_argmin_f32_i32
  simp only [Ideal.cmpf_def, Ideal.cmp, IntOp.ori, IntOp.andi, IntOp.cmpi, Scalar.select]
  by_cases h : a.1 < b.1 <;> by_cases h' : a.1 = b.1 <;> by_cases h'' : a.2.slt b.2 = true <;> simp [h, h', h'']

/-- The choice returns one of its pairs, and one that comes before both. -/
theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [reducer_eq]
  rcases lt_trichotomy a.1 b.1 with h | h | h
  · have e : ((if a.1 < b.1 then a.1 else b.1, if a.1 < b.1 ∨ (a.1 = b.1 ∧ a.2.slt b.2) then a.2 else b.2) : EReal × BitVec 32) = a := by
      rw [if_pos h, if_pos (Or.inl h)]
    rw [e]
    exact ⟨Or.inl rfl, Before.refl a, Or.inl h⟩
  · by_cases hs : a.2.slt b.2 = true
    · have e : ((if a.1 < b.1 then a.1 else b.1, if a.1 < b.1 ∨ (a.1 = b.1 ∧ a.2.slt b.2) then a.2 else b.2) : EReal × BitVec 32) = a := by
        rw [if_neg (by rw [h]; exact lt_irrefl _), if_pos (Or.inr ⟨h, hs⟩), ← h]
      rw [e]
      exact ⟨Or.inl rfl, Before.refl a, Or.inr ⟨h, by simp only [BitVec.slt, decide_eq_true_eq] at hs; exact hs.le⟩⟩
    · have e : ((if a.1 < b.1 then a.1 else b.1, if a.1 < b.1 ∨ (a.1 = b.1 ∧ a.2.slt b.2) then a.2 else b.2) : EReal × BitVec 32) = b := by
        rw [if_neg (by rw [h]; exact lt_irrefl _), if_neg (by rintro (c | c); exacts [absurd c (by rw [h]; exact lt_irrefl _), hs c.2])]
      rw [e]
      exact ⟨Or.inr rfl, Or.inr ⟨h.symm, by simp only [BitVec.slt, decide_eq_true_eq] at hs; exact not_lt.mp hs⟩, Before.refl b⟩
  · have e : ((if a.1 < b.1 then a.1 else b.1, if a.1 < b.1 ∨ (a.1 = b.1 ∧ a.2.slt b.2) then a.2 else b.2) : EReal × BitVec 32) = b := by
      rw [if_neg (not_lt.mpr h.le), if_neg (by rintro (c | c); exacts [absurd c (not_lt.mpr h.le), absurd c.1 h.ne'])]
    rw [e]
    exact ⟨Or.inr rfl, Or.inl h, Before.refl b⟩

variable {z : FVec Ideal S4x24x24x256 .f32} {cb : FVec Ideal S512x256 .f32}
  {zr : Fin 4 → Fin 24 → Fin 24 → Fin 256 → ℝ} {cr : Fin 512 → Fin 256 → ℝ}

/-- The distance of a vector to a codebook row, as a sum. -/
theorem refNorm_apply (g : Fin 4) (x y : Fin 24) (k : Fin 512) :
    refNorm z cb (ix4 g x y k)
      = Ideal.sqrt (∑ i : Fin 256, (z (ix4 g x y i) - cb (ix2 k i)) * (z (ix4 g x y i) - cb (ix2 k i))) := by
  unfold refNorm refDiff
  pointwise

/-- The distance for finite inputs. -/
theorem refNorm_coe (hz : ∀ g x y i, z (ix4 g x y i) = (zr g x y i : EReal)) (hc : ∀ k i, cb (ix2 k i) = (cr k i : EReal))
    (g : Fin 4) (x y : Fin 24) (k : Fin 512) :
    refNorm z cb (ix4 g x y k) = (Real.sqrt (∑ i, (zr g x y i - cr k i) ^ 2) : EReal) := by
  have e : ∑ i : Fin 256, (z (ix4 g x y i) - cb (ix2 k i)) * (z (ix4 g x y i) - cb (ix2 k i))
      = ((∑ i, (zr g x y i - cr k i) ^ 2 : ℝ) : EReal) := by
    simp only [hz, hc, ← EReal.coe_sub, ← EReal.coe_mul, coe_sum, pow_two]
  rw [refNorm_apply, e]
  exact sqrt_coe_nonneg (x := ∑ i, (zr g x y i - cr k i) ^ 2) (Finset.sum_nonneg fun i _ => sq_nonneg _)

/-- At every place the reference's answer is the position of the first codebook row nearest to the place's vector. -/
theorem refOut_isFirstMin (hz : ∀ g x y i, z (ix4 g x y i) = (zr g x y i : EReal)) (hc : ∀ k i, cb (ix2 k i) = (cr k i : EReal))
    (g : Fin 4) (x y : Fin 24) :
    IsFirstMin (fun k => ∑ i, (zr g x y i - cr k i) ^ 2) (refOut z cb (ix3 g x y)) := by
  have hD0 : ∀ k, 0 ≤ ∑ i, (zr g x y i - cr k i) ^ 2 := fun k => Finset.sum_nonneg fun i _ => sq_nonneg _
  have hmem : ∀ p, p ∈ Host.argReduceFiber (refNorm z cb) (iotaInDim S4x24x24x512 32 3) reducesTo_S4x24x24x512_S4x24x24_d3 (ix3 g x y)
      ↔ ∃ k : Fin 512, p = ((Real.sqrt (∑ i, (zr g x y i - cr k i) ^ 2) : EReal), BitVec.ofNat 32 k.val) := fun p => by
    have key : ∀ n : S4x24x24x512.Idx, reducesTo_S4x24x24x512_S4x24x24_d3.drop n = ix3 g x y ↔ ∃ k : Fin 512, ix4 g x y k = n :=
      fun n => Shape.ReducesTo.fiber_r4_a3 reducesTo_S4x24x24x512_S4x24x24_d3 (ix3 g x y) n
    unfold Host.argReduceFiber
    rw [List.mem_map]
    constructor
    · rintro ⟨n, hn, rfl⟩
      rw [List.mem_filter] at hn
      obtain ⟨k, hk⟩ := (key _).mp (of_decide_eq_true hn.2)
      refine ⟨k, ?_⟩
      rw [← hk, refNorm_coe hz hc]
      rfl
    · rintro ⟨k, rfl⟩
      refine ⟨S4x24x24x512.rowMajor (ix4 g x y k), ?_, ?_⟩
      · rw [List.mem_filter]
        refine ⟨List.mem_finRange _, decide_eq_true ?_⟩
        rw [Equiv.symm_apply_apply]
        exact (key _).mpr ⟨k, rfl⟩
      · rw [Equiv.symm_apply_apply, refNorm_coe hz hc]
        rfl
  obtain ⟨h1, -, h3⟩ := foldl_before (reducer_argmin_f32_i32 (F := Ideal)) reducer_before
    (Host.argReduceFiber (refNorm z cb) (iotaInDim S4x24x24x512 32 3) reducesTo_S4x24x24x512_S4x24x24_d3 (ix3 g x y))
    (constant (F := Ideal) S_ .f32 0x7F800000#32 (Shape.Idx.first h_S_), constantI S_ 32 0#32 (Shape.Idx.first h_S_))
  have hout : refOut z cb (ix3 g x y) = ((Host.argReduceFiber (refNorm z cb) (iotaInDim S4x24x24x512 32 3)
      reducesTo_S4x24x24x512_S4x24x24_d3 (ix3 g x y)).foldl (reducer_argmin_f32_i32 (F := Ideal))
      (constant (F := Ideal) S_ .f32 0x7F800000#32 (Shape.Idx.first h_S_), constantI S_ 32 0#32 (Shape.Idx.first h_S_))).2 := by
    unfold refOut
    rw [Ideal.argReduce_eq_reduce2, Host.reduce2_eq_foldl_fiber]
  rw [hout]
  generalize (Host.argReduceFiber (refNorm z cb) (iotaInDim S4x24x24x512 32 3)
      reducesTo_S4x24x24x512_S4x24x24_d3 (ix3 g x y)).foldl (reducer_argmin_f32_i32 (F := Ideal))
      (constant (F := Ideal) S_ .f32 0x7F800000#32 (Shape.Idx.first h_S_), constantI S_ 32 0#32 (Shape.Idx.first h_S_)) = r at h1 h3 ⊢
  have hL : ∃ k : Fin 512, r = ((Real.sqrt (∑ i, (zr g x y i - cr k i) ^ 2) : EReal), BitVec.ofNat 32 k.val) := by
    rcases h1 with h1 | h1
    · have htop : r.1 = ⊤ := by
        rw [h1]
        show Ideal.ofBits .f32 0x7F800000#32 = ⊤
        simp [Ideal.ofBits, Ideal.ieee]
      rcases h3 _ ((hmem _).mpr ⟨0, rfl⟩) with c | ⟨c, -⟩
      · rw [htop] at c
        exact absurd c not_top_lt
      · rw [htop] at c
        exact absurd c.symm (EReal.coe_ne_top _)
    · exact (hmem _).mp h1
  obtain ⟨k, hk⟩ := hL
  have hb : ∀ j : Fin 512, ∑ i, (zr g x y i - cr k i) ^ 2 < ∑ i, (zr g x y i - cr j i) ^ 2
      ∨ (∑ i, (zr g x y i - cr k i) ^ 2 = ∑ i, (zr g x y i - cr j i) ^ 2 ∧ k ≤ j) := fun j => by
    rcases h3 _ ((hmem _).mpr ⟨j, rfl⟩) with c | ⟨c, d⟩
    · rw [hk] at c
      exact Or.inl ((Real.sqrt_lt_sqrt_iff (hD0 k)).mp (EReal.coe_lt_coe_iff.mp c))
    · rw [hk] at c d
      refine Or.inr ⟨(Real.sqrt_inj (hD0 k) (hD0 j)).mp (EReal.coe_eq_coe_iff.mp c), ?_⟩
      dsimp only at d
      rw [toInt_ofNat_small k.isLt, toInt_ofNat_small j.isLt] at d
      exact Fin.le_def.mpr (by exact_mod_cast d)
  refine ⟨k, by rw [hk], fun j => ?_, fun j hj => ?_⟩
  · rcases hb j with c | c
    · exact c.le
    · exact c.1.le
  · rcases hb j with c | c
    · exact c
    · exact absurd c.2 (not_le.mpr hj)

end Cert.ReferenceIdeal.RefValue

end
-- ==== Proof.KerRun.lean ====
/-
  What one grid point of the kernel leaves behind, as a function of what it reads. `blockOut z ct b` names the block of
  answers computed from a block of vectors `z`, the transposed codebook `ct` and the row of half squared lengths `b`.
  The first point fills the two scratch arrays from the codebook and answers from them; every later point finds them as
  the first point left them. So at every point the scratch holds the transposed codebook and the half squared lengths,
  and the point's block of the result array is `blockOut` of that point's vectors.
-/
module

public import proofs.«01_k».proof.Defs
public import proofs.«01_k».proof.Proof.Gen.KernelIdeal
public import proofs.«01_k».proof.Proof.Gen.KernelIdeal.Frame
public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ)

/-- Two zero offsets are the all-zero offsets. -/
theorem off2 : (![0, 0] : Fin 2 → Nat) = fun _ => 0 := funext fun a => by fin_cases a <;> rfl
/-- Three zero offsets are the all-zero offsets. -/
theorem off3 : (![0, 0, 0] : Fin 3 → Nat) = fun _ => 0 := funext fun a => by fin_cases a <;> rfl

/-- The block of answers a point computes from its vectors and the two scratch arrays. -/
def blockOut (z : Vec F S576x256 .f32) (ct : Vec F S256x512 .f32) (b : Vec F S1x512 .f32) : Vec F S1x24x24 .i32 :=
  k0_pay1 (k0_pay8 z ct b) (k0_pay9 z ct b) (k0_pay11 (k0_pay5 z) (k0_pay10 z ct b) ct)
    (k0_pay12 (k0_pay5 z) (k0_pay10 z ct b) ct) (k0_pay13 (k0_pay5 z) (k0_pay10 z ct b) ct)

/-- A later point's block of answers. -/
theorem out_B (c : Dev nD) (i : grid0.Coords) (arg1 : Memref sig .tc .vmem S576x256 .f32) (harg1 : arg1.IsWhole) (arg2 : Memref sig .tc .vmem S512x256 .f32) (harg2 : arg2.IsWhole) (arg3 : Memref sig .tc .vmem S1x24x24 .i32) (harg3 : arg3.IsWhole) (arg4 : Memref sig .tc .vmem S256x512 .f32) (harg4 : arg4.IsWhole) (arg5 : Memref sig .tc .vmem S1x512 .f32) (harg5 : arg5.IsWhole) (hc0 : ¬cond0_0 i)
    (x0 : Vec F S576x256 .f32) (x1 : Vec F S512x256 .f32) (xs0 : Vec F S256x512 .f32) (xs1 : Vec F S1x512 .f32) :
    out0_B_2 c i arg1 harg1 arg2 harg2 arg3 harg3 arg4 harg4 arg5 harg5 hc0 x0 x1 xs0 xs1 = blockOut x0 xs0 xs1 := by
  unfold out0_B_2
  rw [View.read_writes_eq_canon _ _ _ (cover0_B_2 c i arg1 harg1 arg2 harg2 arg3 harg3 arg4 harg4 arg5 harg5 hc0 x0 x1 xs0 xs1)]
  unfold kernelRun0_B
  dsimp only
  sl_unfold_words
  rw [View.canon_unit_zero off3]
  unfold blockOut
  simp only [View.readAt_eq_ld, harg1.read_unread, harg4.read_unread, harg5.read_unread, View.ld_unit_zero (S := S576x256) off2,
    View.ld_unit_zero (S := S256x512) off2, View.ld_unit_zero (S := S1x512) off2]

/-- The first point's block of answers. -/
theorem out_A (c : Dev nD) (i : grid0.Coords) (arg1 : Memref sig .tc .vmem S576x256 .f32) (harg1 : arg1.IsWhole) (arg2 : Memref sig .tc .vmem S512x256 .f32) (harg2 : arg2.IsWhole) (arg3 : Memref sig .tc .vmem S1x24x24 .i32) (harg3 : arg3.IsWhole) (arg4 : Memref sig .tc .vmem S256x512 .f32) (harg4 : arg4.IsWhole) (arg5 : Memref sig .tc .vmem S1x512 .f32) (harg5 : arg5.IsWhole) (hc0 : cond0_0 i)
    (x0 : Vec F S576x256 .f32) (x1 : Vec F S512x256 .f32) :
    out0_A_2 c i arg1 harg1 arg2 harg2 arg3 harg3 arg4 harg4 arg5 harg5 hc0 x0 x1 = blockOut x0 (k0_pay3 x1) (k0_pay4 x1) := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  rw [View.canon_unit_zero off3]
  unfold blockOut
  simp only [View.readAt_eq_ld, harg1.read_unread, harg2.read_unread, View.ld_unit_zero (S := S576x256) off2,
    View.ld_unit_zero (S := S512x256) off2,
    View.readCov_unit_zero (S := S256x512) _ off2, View.readCov_unit_zero (S := S1x512) _ off2]

/-- The first point leaves the transposed codebook in the first scratch array … -/
theorem sout_A_0 (c : Dev nD) (i : grid0.Coords) (arg1 : Memref sig .tc .vmem S576x256 .f32) (harg1 : arg1.IsWhole) (arg2 : Memref sig .tc .vmem S512x256 .f32) (harg2 : arg2.IsWhole) (arg3 : Memref sig .tc .vmem S1x24x24 .i32) (harg3 : arg3.IsWhole) (arg4 : Memref sig .tc .vmem S256x512 .f32) (harg4 : arg4.IsWhole) (arg5 : Memref sig .tc .vmem S1x512 .f32) (harg5 : arg5.IsWhole) (hc0 : cond0_0 i)
    (x0 : Vec F S576x256 .f32) (x1 : Vec F S512x256 .f32) :
    sout0_A_0 c i arg1 harg1 arg2 harg2 arg3 harg3 arg4 harg4 arg5 harg5 hc0 x0 x1 = k0_pay3 x1 := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  rw [View.canon_unit_zero off2]
  simp only [View.readAt_eq_ld, harg2.read_unread, View.ld_unit_zero (S := S512x256) off2]

/-- … and the half squared lengths in the second. -/
theorem sout_A_1 (c : Dev nD) (i : grid0.Coords) (arg1 : Memref sig .tc .vmem S576x256 .f32) (harg1 : arg1.IsWhole) (arg2 : Memref sig .tc .vmem S512x256 .f32) (harg2 : arg2.IsWhole) (arg3 : Memref sig .tc .vmem S1x24x24 .i32) (harg3 : arg3.IsWhole) (arg4 : Memref sig .tc .vmem S256x512 .f32) (harg4 : arg4.IsWhole) (arg5 : Memref sig .tc .vmem S1x512 .f32) (harg5 : arg5.IsWhole) (hc0 : cond0_0 i)
    (x0 : Vec F S576x256 .f32) (x1 : Vec F S512x256 .f32) :
    sout0_A_1 c i arg1 harg1 arg2 harg2 arg3 harg3 arg4 harg4 arg5 harg5 hc0 x0 x1 = k0_pay4 x1 := by
  unfold sout0_A_1
  rw [View.read_writes_eq_canon _ _ _ (scover0_A_1 c i arg1 harg1 arg2 harg2 arg3 harg3 arg4 harg4 arg5 harg5 hc0 x0 x1)]
  unfold kernelRun0_A
  dsimp only
  sl_unfold_words
  rw [View.canon_unit_zero off2]
  simp only [View.readAt_eq_ld, harg2.read_unread, View.ld_unit_zero (S := S512x256) off2]

end Cert.KernelIdeal.KerValue

end
-- ==== Proof.Payloads.lean ====
/-
  The kernel's computations read one entry at a time, over the extended reals. The transposed codebook, the half squared
  lengths, the scores, the two candidate positions of a row, the one-hot choice of their codebook rows, the squared
  differences, and their sum over the 256 coordinates in the order the kernel adds them.
-/
module

public import proofs.«01_k».proof.Proof.KerRun
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.KernelIdeal.KerValue

open Cert.KernelIdeal Cert.KernelIdeal.Gen Cert.FirstMin

variable (z : Vec Ideal S576x256 .f32) (cb : Vec Ideal S512x256 .f32) (ct : Vec Ideal S256x512 .f32) (b : Vec Ideal S1x512 .f32)

/-- The pattern of one half is one half. -/
theorem ofBits_half : Ideal.ofBits .f32 0x3F000000#32 = ((1 / 2 : ℝ) : EReal) := by
  simp [Ideal.ofBits, Ideal.ieee]
  norm_num
  rw [← EReal.coe_mul]
  norm_num

/-- The pattern of plus infinity is the top element. -/
theorem ofBits_inf : Ideal.ofBits .f32 0x7F800000#32 = ⊤ := by
  simp [Ideal.ofBits, Ideal.ieee]

/-- The first scratch array is the codebook transposed. -/
theorem pay3_apply (i : Fin 256) (k : Fin 512) : k0_pay3 cb (ix2 i k) = cb (ix2 k i) := by
  unfold_payloads
  pointwise

/-- The second scratch array holds half the squared length of every codebook row. -/
theorem pay4_apply (k : Fin 512) :
    k0_pay4 cb (ix2 0 k) = ((1 / 2 : ℝ) : EReal) * ∑ i : Fin 256, cb (ix2 k i) * cb (ix2 k i) := by
  rw [← ofBits_half]
  unfold_payloads
  pointwise

/-- The block of vectors passes through unchanged. -/
theorem pay5_apply (r : Fin 576) (i : Fin 256) : k0_pay5 z (ix2 r i) = z (ix2 r i) := by
  unfold_payloads
  pointwise

/-- The score of a codebook row for a vector. -/
theorem pay6_apply (r : Fin 576) (k : Fin 512) :
    k0_pay6 z ct b (ix2 r k) = b (ix2 0 k) - ∑ i : Fin 256, z (ix2 r i) * ct (ix2 i k) := by
  unfold_payloads
  pointwise [dot_S576x256_S256x512_S576x512_1_0_0_1_n_n]

/-- The first candidate of a vector is the first position of its smallest score. -/
theorem pay7_apply (r : Fin 576) :
    k0_pay7 z ct b (ix2 r 0) = firstMinWord fun k => k0_pay6 z ct b (ix2 r k) := by
  unfold k0_pay7 firstMinWord
  pointwise
  rw [ofBits_inf]

/-- The first candidates laid out along a row. -/
theorem pay8_apply (r : Fin 576) : k0_pay8 z ct b (ix2 0 r) = k0_pay7 z ct b (ix2 r 0) := by
  unfold k0_pay8
  pointwise

/-- The second candidate is found the same way with the first one's score put to infinity. -/
theorem pay9_apply (r : Fin 576) :
    k0_pay9 z ct b (ix2 0 r) = firstMinWord fun k =>
      if BitVec.ofNat 32 k.val = k0_pay7 z ct b (ix2 r 0) then ⊤ else k0_pay6 z ct b (ix2 r k) := by
  have e : ∀ k : Fin 512, Scalar.select (IntOp.cmpi CmpIPredicate.eq (BitVec.ofNat 32 k.val) (k0_pay7 z ct b (ix2 r 0)))
      (⊤ : EReal) (k0_pay6 z ct b (ix2 r k))
      = if BitVec.ofNat 32 k.val = k0_pay7 z ct b (ix2 r 0) then ⊤ else k0_pay6 z ct b (ix2 r k) :=
    fun k => select_word_eq _ _ _ _
  unfold k0_pay9 firstMinWord
  pointwise
  simp only [ofBits_inf, e]

/-- A column of the one-hot array marks the first candidate of its vector in the left half … -/
theorem pay10_left (k : Fin 512) (r : Fin 576) :
    k0_pay10 z ct b (ix2 k ⟨r.val, by omega⟩) = if BitVec.ofNat 32 k.val = k0_pay8 z ct b (ix2 0 r) then 1 else 0 := by
  unfold k0_pay10
  pointwise
  exact select_word_eq _ _ _ _

/-- … and the second candidate in the right half. -/
theorem pay10_right (k : Fin 512) (r : Fin 576) :
    k0_pay10 z ct b (ix2 k ⟨576 + r.val, by omega⟩) = if BitVec.ofNat 32 k.val = k0_pay9 z ct b (ix2 0 r) then 1 else 0 := by
  unfold k0_pay10
  pointwise
  exact select_word_eq _ _ _ _

/-- The squared difference of a vector and the codebook row chosen for it, left half … -/
theorem pay11_left (o : Vec Ideal S512x1152 .f32) (i : Fin 256) (r : Fin 576) :
    k0_pay11 z o ct (ix2 i ⟨r.val, by omega⟩)
      = (z (ix2 r i) - ∑ k : Fin 512, ct (ix2 i k) * o (ix2 k ⟨r.val, by omega⟩))
        * (z (ix2 r i) - ∑ k : Fin 512, ct (ix2 i k) * o (ix2 k ⟨r.val, by omega⟩)) := by
  unfold k0_pay11
  pointwise [dot_S256x512_S512x1152_S256x1152_1_0_0_1_n_n]

/-- … and right half. -/
theorem pay11_right (o : Vec Ideal S512x1152 .f32) (i : Fin 256) (r : Fin 576) :
    k0_pay11 z o ct (ix2 i ⟨576 + r.val, by omega⟩)
      = (z (ix2 r i) - ∑ k : Fin 512, ct (ix2 i k) * o (ix2 k ⟨576 + r.val, by omega⟩))
        * (z (ix2 r i) - ∑ k : Fin 512, ct (ix2 i k) * o (ix2 k ⟨576 + r.val, by omega⟩)) := by
  unfold k0_pay11
  pointwise [dot_S256x512_S512x1152_S256x1152_1_0_0_1_n_n]

/-- Six slices of the second half, added row by row. -/
theorem pay13_apply (o : Vec Ideal S512x1152 .f32) (s : Fin 8) (q : Fin 1152) :
    k0_pay13 z o ct (ix2 s q) = ∑ t : Fin 6, k0_pay11 z o ct (ix2 ⟨128 + 8 * t.val + s.val, by omega⟩ q) := by
  unfold k0_pay13
  generalize k0_pay11 z o ct = v
  pointwise
  simp only [Fin.sum_univ_castSucc, Fin.sum_univ_zero, zero_add]
  rfl

/-- The sum of the first half. -/
theorem pay12_apply (o : Vec Ideal S512x1152 .f32) (q : Fin 1152) :
    k0_pay12 z o ct (ix2 0 q) = fold8 fun s => ∑ t : Fin 16, k0_pay11 z o ct (ix2 ⟨8 * t.val + s.val, by omega⟩ q) := by
  unfold k0_pay12
  generalize k0_pay11 z o ct = v
  pointwise
  simp only [fold8, Fin.sum_univ_castSucc, Fin.sum_univ_zero, zero_add]
  rfl

/-- The whole sum of a column, from the first half's sum `h`, the six added slices `p` and the ten slices left. -/
def tailSum (sq : FVec Ideal S256x1152 .f32) (h : FVec Ideal S1x1152 .f32) (p : FVec Ideal S8x1152 .f32) (q : Fin 1152) : EReal :=
  h (ix2 0 q) + fold8 fun s => p (ix2 s q) + sq (ix2 ⟨176 + s.val, by omega⟩ q) + sq (ix2 ⟨184 + s.val, by omega⟩ q)
    + sq (ix2 ⟨192 + s.val, by omega⟩ q) + sq (ix2 ⟨200 + s.val, by omega⟩ q) + sq (ix2 ⟨208 + s.val, by omega⟩ q)
    + sq (ix2 ⟨216 + s.val, by omega⟩ q) + sq (ix2 ⟨224 + s.val, by omega⟩ q) + sq (ix2 ⟨232 + s.val, by omega⟩ q)
    + sq (ix2 ⟨240 + s.val, by omega⟩ q) + sq (ix2 ⟨248 + s.val, by omega⟩ q)

/-- The answer at a place, from the two candidates and the roots of the two columns' sums. -/
theorem pay1_apply (i1 i2 : IVec S1x576 32) (sq : FVec Ideal S256x1152 .f32) (h : FVec Ideal S1x1152 .f32) (p : FVec Ideal S8x1152 .f32) (x y : Fin 24) :
    k0_pay1 i1 i2 sq h p (ix3 0 x y) = pick (i1 (ix2 0 ⟨x.val * 24 + y.val, by omega⟩)) (i2 (ix2 0 ⟨x.val * 24 + y.val, by omega⟩))
      (Ideal.sqrt (tailSum sq h p ⟨x.val * 24 + y.val, by omega⟩)) (Ideal.sqrt (tailSum sq h p ⟨576 + (x.val * 24 + y.val), by omega⟩)) := by
  unfold k0_pay1 pick
  pointwise
  rfl

/-- That sum is the sum over all 256 coordinates. -/
theorem tailSum_eq (o : Vec Ideal S512x1152 .f32) (q : Fin 1152) :
    tailSum (k0_pay11 z o ct) (k0_pay12 z o ct) (k0_pay13 z o ct) q = ∑ i : Fin 256, k0_pay11 z o ct (ix2 i q) := by
  rw [sum_rows, tailSum, pay12_apply]
  congr 2
  funext s
  rw [pay13_apply]
  generalize k0_pay11 z o ct = v
  simp only [Fin.sum_univ_castSucc, Fin.sum_univ_zero, zero_add]
  rfl
/-- The answer of a block at a place: the nearer of its two candidates, the earlier one on a tie. -/
theorem blockOut_apply (x y : Fin 24) :
    blockOut z ct b (ix3 0 x y)
      = pick (k0_pay8 z ct b (ix2 0 ⟨x.val * 24 + y.val, by omega⟩)) (k0_pay9 z ct b (ix2 0 ⟨x.val * 24 + y.val, by omega⟩))
          (Ideal.sqrt (∑ i : Fin 256, k0_pay11 (k0_pay5 z) (k0_pay10 z ct b) ct (ix2 i ⟨x.val * 24 + y.val, by omega⟩)))
          (Ideal.sqrt (∑ i : Fin 256, k0_pay11 (k0_pay5 z) (k0_pay10 z ct b) ct (ix2 i ⟨576 + (x.val * 24 + y.val), by omega⟩))) := by
  unfold blockOut
  rw [pay1_apply, tailSum_eq, tailSum_eq]

end Cert.KernelIdeal.KerValue

end
-- ==== Proof.Block.lean ====
/-
  The kernel's block of answers for finite inputs: at every place it is the position of the first codebook row nearest to
  that place's vector. The first candidate already is that row, since a row's score differs from half its squared distance
  by an amount that is the same for all rows; comparing it with the second candidate never changes it.
-/
module

public import proofs.«01_k».proof.Proof.Payloads

@[expose] public section

set_option maxRecDepth 16384

noncomputable section

open Idealize.ShloMosaic Idealize.ShloMosaic.TcCoe Idealize.SL.Sem

namespace Cert.KernelIdeal.KerValue

open Cert.KernelIdeal Cert.KernelIdeal.Gen Cert.FirstMin

variable {z : Vec Ideal S576x256 .f32} {cb : Vec Ideal S512x256 .f32} {zr : Fin 576 → Fin 256 → ℝ} {cr : Fin 512 → Fin 256 → ℝ}

/-- The score of a codebook row for a vector, for finite inputs. -/
theorem score_coe (hz : ∀ r i, z (ix2 r i) = (zr r i : EReal)) (hc : ∀ k i, cb (ix2 k i) = (cr k i : EReal)) (r : Fin 576) (k : Fin 512) :
    k0_pay6 z (k0_pay3 cb) (k0_pay4 cb) (ix2 r k)
      = ((1 / 2 * ∑ i, cr k i * cr k i - ∑ i, zr r i * cr k i : ℝ) : EReal) := by
  rw [pay6_apply, pay4_apply]
  simp only [pay3_apply, hz, hc, ← EReal.coe_mul, coe_sum, ← EReal.coe_sub]

/-- The sum of squared differences of a vector and one codebook row, for finite inputs. -/
theorem sq_coe (r : Fin 576) (l : Fin 512) :
    ∑ i : Fin 256, ((zr r i : EReal) - (cr l i : EReal)) * ((zr r i : EReal) - (cr l i : EReal))
      = ((∑ i, (zr r i - cr l i) ^ 2 : ℝ) : EReal) := by
  simp only [← EReal.coe_sub, ← EReal.coe_mul, coe_sum, pow_two]

/-- At every place the block's answer is the position of the first codebook row nearest to the place's vector. -/
theorem blockOut_isFirstMin (hz : ∀ r i, z (ix2 r i) = (zr r i : EReal)) (hc : ∀ k i, cb (ix2 k i) = (cr k i : EReal)) (x y : Fin 24) :
    IsFirstMin (fun k => ∑ i, (zr ⟨x.val * 24 + y.val, by omega⟩ i - cr k i) ^ 2)
      (blockOut z (k0_pay3 cb) (k0_pay4 cb) (ix3 0 x y)) := by
  rw [blockOut_apply]
  generalize hr : (⟨x.val * 24 + y.val, by omega⟩ : Fin 576) = r
  have hl : (⟨x.val * 24 + y.val, by omega⟩ : Fin 1152) = ⟨r.val, by omega⟩ := by subst hr; rfl
  have hr' : (⟨576 + (x.val * 24 + y.val), by omega⟩ : Fin 1152) = ⟨576 + r.val, by omega⟩ := by subst hr; rfl
  rw [hl, hr']
  obtain ⟨k, hk, hmin, hfirst⟩ := firstMinWord_spec fun k => k0_pay6 z (k0_pay3 cb) (k0_pay4 cb) (ix2 r k)
  obtain ⟨l, hl, -, -⟩ := firstMinWord_spec fun k =>
    if BitVec.ofNat 32 k.val = k0_pay7 z (k0_pay3 cb) (k0_pay4 cb) (ix2 r 0) then ⊤ else k0_pay6 z (k0_pay3 cb) (k0_pay4 cb) (ix2 r k)
  have e8 : k0_pay8 z (k0_pay3 cb) (k0_pay4 cb) (ix2 0 r) = BitVec.ofNat 32 k.val := by rw [pay8_apply, pay7_apply, hk]
  have e9 : k0_pay9 z (k0_pay3 cb) (k0_pay4 cb) (ix2 0 r) = BitVec.ofNat 32 l.val := by rw [pay9_apply, hl]
  have hD0 : ∀ j, 0 ≤ ∑ i, (zr r i - cr j i) ^ 2 := fun j => Finset.sum_nonneg fun i _ => sq_nonneg _
  have n1 : Ideal.sqrt (∑ i : Fin 256, k0_pay11 (k0_pay5 z) (k0_pay10 z (k0_pay3 cb) (k0_pay4 cb)) (k0_pay3 cb) (ix2 i ⟨r.val, by omega⟩))
      = (Real.sqrt (∑ i, (zr r i - cr k i) ^ 2) : EReal) := by
    simp only [pay11_left, pay10_left, e8, sum_one_hot, pay5_apply, pay3_apply, hz, hc]
    rw [sq_coe, sqrt_coe_nonneg (hD0 k)]
  have n2 : Ideal.sqrt (∑ i : Fin 256, k0_pay11 (k0_pay5 z) (k0_pay10 z (k0_pay3 cb) (k0_pay4 cb)) (k0_pay3 cb) (ix2 i ⟨576 + r.val, by omega⟩))
      = (Real.sqrt (∑ i, (zr r i - cr l i) ^ 2) : EReal) := by
    simp only [pay11_right, pay10_right, e9, sum_one_hot, pay5_apply, pay3_apply, hz, hc]
    rw [sq_coe, sqrt_coe_nonneg (hD0 l)]
  have dmin : ∀ j, ∑ i, (zr r i - cr k i) ^ 2 ≤ ∑ i, (zr r i - cr j i) ^ 2 := fun j => by
    have h := hmin j
    rw [score_coe hz hc, score_coe hz hc, EReal.coe_le_coe_iff] at h
    rw [sq_dist_eq, sq_dist_eq]; linarith
  have dfirst : ∀ j, j < k → ∑ i, (zr r i - cr k i) ^ 2 < ∑ i, (zr r i - cr j i) ^ 2 := fun j hj => by
    have h := hfirst j hj
    rw [score_coe hz hc, score_coe hz hc, EReal.coe_lt_coe_iff] at h
    rw [sq_dist_eq, sq_dist_eq]; linarith
  rw [n1, n2, e8, e9, pick_first (D := fun j => ∑ i, (zr r i - cr j i) ^ 2) hD0 dmin dfirst]
  exact ⟨k, rfl, dmin, dfirst⟩

end Cert.KernelIdeal.KerValue

end
-- ==== Proof.KerValue.lean ====
/-
  What the kernel's result array holds, over the extended reals and for finite inputs: at every place, the position of the
  first codebook row nearest to that place's vector. Each grid point answers one of the four groups of 576 vectors; the
  scratch arrays hold the same values after every point, and every place of the result belongs to exactly one point.
-/
module

public import proofs.«01_k».proof.Proof.Block
public import proofs.«01_k».proof.Proof.Gen.KernelIdeal.Value

@[expose] public section

set_option maxRecDepth 16384

noncomputable section

open Idealize.ShloMosaic Idealize.ShloMosaic.TcCoe Idealize.SL.Sem

namespace Cert.KernelIdeal.KerValue

open Cert.KernelIdeal Cert.KernelIdeal.Gen Cert.FirstMin

section anyFloat

variable {F : FTy → Type} [FloatOps F]
variable (m : (ℓ : Loc nD τ sig) → Buf (Elt F) ℓ)

/-- Where the vectors' window stands at a point. -/
theorem index0 : ∀ t : Fin grid0.N, win0_0.index t 0 = t.val ∧ win0_0.index t 1 = 0 := by decide +kernel

/-- The codebook's window does not move. -/
theorem index1 : ∀ t : Fin grid0.N, win0_1.index t 0 = 0 ∧ win0_1.index t 1 = 0 := by decide +kernel

/-- The codebook block a point reads is the whole codebook. -/
theorem iblk1_eq (c : Dev nD) (t : Fin cfg0.N) :
    (iblk m c 1 t : Vec F S512x256 .f32) = m ((c : Thread nD τ).loc main_arg1) := by
  have hi := index1 t
  funext j
  unfold iblk
  rw [View.read_apply]
  show V m c main_arg1 _ = m (c.tc.loc main_arg1) j
  rw [V_main_arg1]
  show m (c.tc.loc main_arg1) _ = _
  congr 1
  funext a
  apply Fin.ext
  match a with
  | ⟨0, _⟩ => show win0_1.index t 0 * 512 + 1 * (j 0).val = (j 0).val; rw [hi.1]; omega
  | ⟨1, _⟩ => show win0_1.index t 1 * 256 + 1 * (j 1).val = (j 1).val; rw [hi.2]; omega

/-- The array of vectors laid out as 2304 rows. -/
theorem V_main_v0 (c : Dev nD) :
    V m c main_v0 = shapeCast S2304x256 (m ((c : Thread nD τ).loc main_arg0)) shapeCasts_S4x24x24x256_S2304x256 := by
  unfold V hostOps0
  rfl

/-- Row `576 g + r` of the 2304 rows is the vector at place `(r / 24, r % 24)` of group `g`. -/
theorem rows_apply (a : Vec F S4x24x24x256 .f32) (g : Fin 4) (r : Fin 576) (i : Fin 256) :
    shapeCast S2304x256 a shapeCasts_S4x24x24x256_S2304x256 (ix2 ⟨576 * g.val + r.val, by omega⟩ i)
      = a (ix4 g ⟨r.val / 24, by omega⟩ ⟨r.val % 24, by omega⟩ i) := by
  pointwise
  exact congrArg₂ (fun u v => a (ix4 g u v i)) (Fin.ext (by dsimp only; omega)) (Fin.ext (by dsimp only; omega))

/-- The block of vectors point `t` reads: its row `r` is the vector at place `(r / 24, r % 24)` of group `t`. -/
theorem iblk0_apply (c : Dev nD) (t : Fin cfg0.N) (g : Fin 4) (ht : g.val = t.val) (r : Fin 576) (i : Fin 256) :
    (iblk m c 0 t : Vec F S576x256 .f32) (ix2 r i)
      = m ((c : Thread nD τ).loc main_arg0) (ix4 g ⟨r.val / 24, by omega⟩ ⟨r.val % 24, by omega⟩ i) := by
  have hi := index0 t
  unfold iblk
  rw [View.read_apply]
  show V m c main_v0 _ = _
  rw [V_main_v0]
  have e : (((cfg0.win 0).blk t).view.emb (ix2 r i) : S2304x256.Idx) = ix2 ⟨576 * g.val + r.val, by omega⟩ i := by
    funext a
    apply Fin.ext
    match a with
    | ⟨0, _⟩ => show win0_0.index t 0 * 576 + 1 * r.val = 576 * g.val + r.val; rw [hi.1]; omega
    | ⟨1, _⟩ => show win0_0.index t 1 * 256 + 1 * i.val = i.val; rw [hi.2]; omega
  show shapeCast S2304x256 _ _ (((cfg0.win 0).blk t).view.emb (ix2 r i) : S2304x256.Idx) = _
  rw [e]
  exact rows_apply _ g r i

/-- What a point leaves: its block of answers, the transposed codebook and the half squared lengths. -/
theorem outsAt0_eq (c : Dev nD) : ∀ (n : ℕ) (h : n < cfg0.N),
    outsAt0 m c n h = (blockOut (iblk m c 0 ⟨n, h⟩) (k0_pay3 (m ((c : Thread nD τ).loc main_arg1))) (k0_pay4 (m ((c : Thread nD τ).loc main_arg1))),
      k0_pay3 (m ((c : Thread nD τ).loc main_arg1)), k0_pay4 (m ((c : Thread nD τ).loc main_arg1)))
  | 0, h => by
    refine (outsAt0_A m c ⟨0, h⟩ rfl).trans ?_
    rw [out_A, sout_A_0, sout_A_1, iblk1_eq]
  | n + 1, h => by
    have hN : cfg0.N = 4 := N_0
    have hB : ¬(⟨n + 1, h⟩ : Fin cfg0.N).val % 4 = 0 := by dsimp only; omega
    refine (outsAt0_B m c ⟨n + 1, h⟩ hB).trans ?_
    have ih := outsAt0_eq c n (Nat.lt_of_succ_lt h)
    have ih' : outsAt0 m c ((⟨n + 1, h⟩ : Fin cfg0.N).val - 1) (Nat.lt_of_le_of_lt (Nat.sub_le _ _) (⟨n + 1, h⟩ : Fin cfg0.N).isLt) = _ := ih
    rw [out_B, ih']
    rfl

/-- The result array at a place. -/
theorem G2_apply (c : Dev nD) (g : Fin 4) (x y : Fin 24) :
    Value.G2 m c (ix3 g x y)
      = blockOut (iblk m c 0 ⟨g.val, lt_of_lt_of_eq g.isLt N_0.symm⟩) (k0_pay3 (m ((c : Thread nD τ).loc main_arg1)))
          (k0_pay4 (m ((c : Thread nD τ).loc main_arg1))) (ix3 0 x y) := by
  have hN : cfg0.N = 4 := N_0
  have hp : Value.pt2Of (ix3 g x y) = g.val := by
    show 1 * (g.val / 1 - 0) + 1 * (x.val / 24 - 0) + 1 * (y.val / 24 - 0) = g.val
    omega
  have hl : Value.loc2Of (ix3 g x y) = ix3 0 x y := by
    funext a
    apply Fin.ext
    match a with
    | ⟨0, _⟩ => show g.val % 1 = 0; omega
    | ⟨1, _⟩ => show x.val % 24 = x.val; omega
    | ⟨2, _⟩ => show y.val % 24 = y.val; omega
  have hg : g.val < cfg0.N := lt_of_lt_of_eq g.isLt N_0.symm
  unfold Value.G2
  rw [dif_pos (by rw [hp]; exact hg), hl, Value.fold0_congr m c _ _ g.val (by omega) hp, ← Value.outsAt0_sweep m c g.val hg, outsAt0_eq]

end anyFloat

variable (m : (ℓ : Loc nD τ sig) → Buf (Elt Ideal) ℓ)

/-- For finite inputs every place of the kernel's result is the position of the first codebook row nearest to the place's
    vector. -/
theorem G2_isFirstMin (c : Dev nD) {zr : Fin 4 → Fin 24 → Fin 24 → Fin 256 → ℝ} {cr : Fin 512 → Fin 256 → ℝ}
    (hz : ∀ g x y i, m ((c : Thread nD τ).loc main_arg0) (ix4 g x y i) = (zr g x y i : EReal))
    (hc : ∀ k i, m ((c : Thread nD τ).loc main_arg1) (ix2 k i) = (cr k i : EReal)) (g : Fin 4) (x y : Fin 24) :
    IsFirstMin (fun k => ∑ i, (zr g x y i - cr k i) ^ 2) (Value.G2 m c (ix3 g x y)) := by
  rw [G2_apply]
  have h := blockOut_isFirstMin (z := iblk m c 0 ⟨g.val, lt_of_lt_of_eq g.isLt N_0.symm⟩)
    (cb := m ((c : Thread nD τ).loc main_arg1)) (cr := cr)
    (zr := fun r i => zr g ⟨r.val / 24, by omega⟩ ⟨r.val % 24, by omega⟩ i)
    (fun r i => (iblk0_apply m c _ g rfl r i).trans (hz _ _ _ _)) hc x y
  have ex : (⟨(x.val * 24 + y.val) / 24, by omega⟩ : Fin 24) = x := Fin.ext (by show (x.val * 24 + y.val) / 24 = x.val; omega)
  have ey : (⟨(x.val * 24 + y.val) % 24, by omega⟩ : Fin 24) = y := Fin.ext (by show (x.val * 24 + y.val) % 24 = y.val; omega)
  simpa only [ex, ey] using h

end Cert.KernelIdeal.KerValue

end
-- ==== Proof.Pre.lean ====
/-
  What the precondition says: an array all of whose entries have absolute value below infinity holds finite numbers.
-/
module

public import proofs.«01_k».proof.Defs
public import proofs.«01_k».proof.Proof.Math
public import Idealize.ShloMosaic.Lib.Pointwise

@[expose] public section

noncomputable section

open Idealize.ShloMosaic Idealize.SL.Sem

namespace Cert.Pre_all_finite

open Cert.FirstMin

/-- The side conditions the precondition states. -/
theorem facts : Facts where
  bcast_S_S4x24x24x256 := by decide
  bcast_S_S512x256 := by decide

/-- An entry whose absolute value compares below the pattern of infinity is finite. -/
theorem exists_coe_of_cmp {x : EReal}
    (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  exact exists_coe_of_abs_lt ((Ideal.cmp_olt_eq_one _ _).mp h)

variable [Facts] {a0 : FVec Ideal S4x24x24x256 .f32} {a1 : FVec Ideal S512x256 .f32}

/-- Under the precondition every entry of the vectors is finite. -/
theorem finite0 (h : (fn (F := Ideal) a0 a1).1 = fun _ => 1#1) (j : S4x24x24x256.Idx) : ∃ r : ℝ, a0 j = (r : EReal) :=
  exists_coe_of_cmp (congrFun h j)

/-- Under the precondition every entry of the codebook is finite. -/
theorem finite1 (h : (fn (F := Ideal) a0 a1).2 = fun _ => 1#1) (j : S512x256.Idx) : ∃ r : ℝ, a1 j = (r : EReal) :=
  exists_coe_of_cmp (congrFun h j)

end Cert.Pre_all_finite

end
-- ==== Proof.lean ====
/-
  The proof of the claims. The kernel, read on its own words and over the extended reals, and the reference each run to the
  end, leave their arguments as they were and leave every semaphore at zero. No operation was rewritten. Over the extended
  reals, for finite vectors and a finite codebook, the kernel's result and the reference's are equal at every place: both
  are the position of the first codebook row nearest to the place's vector.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefValue
public import proofs.«01_k».proof.Proof.KerValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Two arrays of answers that are at every place the first nearest position for the same distances are equal. -/
theorem answers_eq {D : Fin 4 → Fin 24 → Fin 24 → Fin 512 → ℝ} {u v : Cert.KernelIdeal.S4x24x24.Idx → BitVec 32}
    (hu : ∀ g x y, Cert.FirstMin.IsFirstMin (D g x y) (u (ix3 g x y)))
    (hv : ∀ g x y, Cert.FirstMin.IsFirstMin (D g x y) (v (ix3 g x y))) : u = v := by
  funext j
  have e : j = ix3 (j 0) (j 1) (j 2) := by
    funext a
    match a with
    | ⟨0, _⟩ => rfl
    | ⟨1, _⟩ => rfl
    | ⟨2, _⟩ => rfl
  rw [e]
  exact (hu _ _ _).unique (hv _ _ _)

/-- The kernel over the extended reals and the reference end with equal answers. -/
theorem values_equal [Cert.Pre_all_finite.Facts] : Cert.algebraic_KernelIdeal_ReferenceIdeal_pre_all_finite :=
  fun m g m' g' hpre hag => by
    have hfin : ∀ c : Dev Cert.KernelIdeal.nD,
        Cert.KernelIdeal.Value.G2 m c = Cert.ReferenceIdeal.RefValue.refOut (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := fun c => by
      have h0 := fun g x y i => Cert.Pre_all_finite.finite0 (hpre c).1 (ix4 g x y i)
      have h1 := fun k i => Cert.Pre_all_finite.finite1 (hpre c).2 (ix2 k i)
      choose zr hz using h0
      choose cr hc using h1
      rw [(hag c).1, (hag c).2]
      exact answers_eq (Cert.KernelIdeal.KerValue.G2_isFirstMin m c hz hc) (Cert.ReferenceIdeal.RefValue.refOut_isFirstMin hz hc)
    refine ⟨fun c => Cert.KernelIdeal.Value.G2 m c, Cert.KernelIdeal.Value.run m g, ?_⟩
    refine (θ_run _ _ _).mono (fun _ h c => ?_) (Cert.ReferenceIdeal.RefValue.run m' g')
    exact ⟨(h.1 c).1.trans (hfin c).symm, (h.1 c).2⟩

/-- Everything claimed. -/
theorem claim : Cert.Claim := ⟨Cert.Kernel.Gen.facts, Cert.KernelIdeal.Gen.facts, Cert.ReferenceIdeal.Gen.facts, Cert.Pre_all_finite.facts,
  fun m g _ => Cert.Kernel.Gen.frame m g,
  fun m g _ => Cert.KernelIdeal.Gen.frame m g,
  fun m g _ => Cert.KernelIdeal.Gen.frame m g,
  fun m g _ => (θ_run _ _ _).mono (fun _ h => ⟨fun c => (h.1 c).2, h.2⟩) (Cert.ReferenceIdeal.RefValue.run m g),
  fun m g _ => (θ_run _ _ _).mono (fun _ h => ⟨fun c => (h.1 c).2, h.2⟩) (Cert.ReferenceIdeal.RefValue.run m g),
  trivial,
  letI := Cert.Pre_all_finite.facts
  values_equal⟩

end Cert.Proof

end
